-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_groups [hPre_uniform_groups : Cert.Pre_uniform_groups.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_groups [hPre_uniform_groups : Cert.Pre_uniform_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_uniform_groups [hKernelIdeal : Cert.KernelIdeal.Facts] [hPre_uniform_groups : Cert.Pre_uniform_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_uniform_groups [hReferenceIdeal : Cert.ReferenceIdeal.Facts] [hPre_uniform_groups : Cert.Pre_uniform_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_uniform_groups [hKernelIdeal : Cert.KernelIdeal.Facts] [hReferenceIdeal : Cert.ReferenceIdeal.Facts] [hPre_uniform_groups : Cert.Pre_uniform_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_uniform_groups : Cert.Pre_uniform_groups.Facts),
    quiescent_Kernel (hKernel := hKernel)
    ∧ quiescent_KernelIdeal (hKernelIdeal := hKernelIdeal)
    ∧ quiescent_KernelIdeal_pre_uniform_groups (hKernelIdeal := hKernelIdeal) (hPre_uniform_groups := hPre_uniform_groups)
    ∧ quiescent_ReferenceIdeal (hReferenceIdeal := hReferenceIdeal)
    ∧ quiescent_ReferenceIdeal_pre_uniform_groups (hReferenceIdeal := hReferenceIdeal) (hPre_uniform_groups := hPre_uniform_groups)
    ∧ preserves_Kernel_KernelIdeal
    ∧ algebraic_KernelIdeal_ReferenceIdeal_pre_uniform_groups (hKernelIdeal := hKernelIdeal) (hReferenceIdeal := hReferenceIdeal) (hPre_uniform_groups := hPre_uniform_groups)
-- ==== Pre_uniform_groups.lean ====
abbrev S4096x1024 : Shape := ⟨2, ![4096, 1024]⟩
abbrev S8 : Shape := ⟨1, ![8]⟩
abbrev S8x1024x1024 : Shape := ⟨3, ![8, 1024, 1024]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S4096x1024 .f32) (main_arg1 : IVec S8 32) (main_arg2 : FVec F S8x1024x1024 .f32) (main_arg3 : FVec F S8x1024x1024 .f32) (main_arg4 : FVec F S8x1024x1024 .f32) : IVec S8 1 :=
  let main_c : IVec S_ 32 := constantI S_ 32 512#32
  let main_v0 : IVec S8 32 := broadcastInDim S8 ![] bcast_S_S8 main_c
  let main_v1 : IVec S8 1 := cmpi .eq main_arg1 main_v0
  main_v1
-- ==== Kernel.lean ====
abbrev S4096x1024 : Shape := ⟨2, ![4096, 1024]⟩
abbrev S8 : Shape := ⟨1, ![8]⟩
abbrev S8x1024x1024 : Shape := ⟨3, ![8, 1024, 1024]⟩
abbrev S512x1024 : Shape := ⟨2, ![512, 1024]⟩
abbrev S1x1024x256 : Shape := ⟨3, ![1, 1024, 256]⟩
abbrev S512x256 : Shape := ⟨2, ![512, 256]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S8, .i32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S512x256, .f32⟩
  | .local _ .vmem, ⟨9, _⟩ => ⟨S512x256, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_10 : Index := 0#32
  let arg1 : BitVec 32 := BitVec.ofNat 32 (i 1).val
  let c256_i32 : BitVec 32 := 256#32
  let v16 : BitVec 32 := Scalar.muli arg1 c256_i32
  let v17 : Index := Scalar.indexCast v16
  ![0, v17.toNat]
def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x1024 : Shape := ⟨2, ![4096, 1024]⟩
abbrev S8 : Shape := ⟨1, ![8]⟩
abbrev S8x1024x1024 : Shape := ⟨3, ![8, 1024, 1024]⟩
abbrev S_ : Shape := ⟨0, ![]⟩
abbrev S1x8 : Shape := ⟨2, ![1, 8]⟩
abbrev S4096 : Shape := ⟨1, ![4096]⟩
abbrev S4096x1 : Shape := ⟨2, ![4096, 1]⟩
abbrev S4096x8 : Shape := ⟨2, ![4096, 8]⟩
abbrev S1x1024x1024 : Shape := ⟨3, ![1, 1024, 1024]⟩
abbrev S1024x1024 : Shape := ⟨2, ![1024, 1024]⟩

abbrev nBuf : Space → Nat
  | .hbm => 345
  | .vmem => 0
  | .smem => 0
  | _ => 0

abbrev hbmTy0_0 (i : Nat) : BufTy := match i % 128 with
  | 0 => ⟨S4096x1024, .f32⟩
  | 1 => ⟨S8, .i32⟩
  | 2 => ⟨S8x1024x1024, .f32⟩
  | 3 => ⟨S8x1024x1024, .f32⟩
  | 4 => ⟨S8x1024x1024, .f32⟩
  | 5 => ⟨S_, .i32⟩
  | 6 => ⟨S_, .i32⟩
  | 7 => ⟨S8, .i32⟩
  | 8 => ⟨S1x8, .i32⟩
  | 9 => ⟨S4096, .i32⟩
  | 10 => ⟨S4096x1, .i32⟩
  | 11 => ⟨S4096x8, .i32⟩
  | 12 => ⟨S4096x8, .i32⟩
  | 13 => ⟨S4096x8, .i1⟩
  | 14 => ⟨S4096x8, .i32⟩
  | 15 => ⟨S_, .i32⟩
  | 16 => ⟨S4096, .i32⟩
  | 17 => ⟨S_, .i32⟩
  | 18 => ⟨S_, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S_, .f32⟩
  | 26 => ⟨S4096x1024, .f32⟩
  | 27 => ⟨S_, .i32⟩
  | 28 => ⟨S4096, .i32⟩
  | 29 => ⟨S4096, .i1⟩
  | 30 => ⟨S4096, .f32⟩
  | 31 => ⟨S4096x1, .f32⟩
  | 32 => ⟨S4096x1024, .f32⟩
  | 33 => ⟨S4096x1024, .f32⟩
  | 34 => ⟨S1x1024x1024, .f32⟩
  | 35 => ⟨S1024x1024, .f32⟩
  | 36 => ⟨S4096x1024, .f32⟩
  | 37 => ⟨S4096x1024, .f32⟩
  | 38 => ⟨S_, .i32⟩
  | 39 => ⟨S4096, .i32⟩
  | 40 => ⟨S4096, .i1⟩
  | 41 => ⟨S4096, .f32⟩
  | 42 => ⟨S4096x1, .f32⟩
  | 43 => ⟨S4096x1024, .f32⟩
  | 44 => ⟨S4096x1024, .f32⟩
  | 45 => ⟨S1x1024x1024, .f32⟩
  | 46 => ⟨S1024x1024, .f32⟩
  | 47 => ⟨S4096x1024, .f32⟩
  | 48 => ⟨S4096x1024, .f32⟩
  | 49 => ⟨S_, .i32⟩
  | 50 => ⟨S4096, .i32⟩
  | 51 => ⟨S4096, .i1⟩
  | 52 => ⟨S4096, .f32⟩
  | 53 => ⟨S4096x1, .f32⟩
  | 54 => ⟨S4096x1024, .f32⟩
  | 55 => ⟨S4096x1024, .f32⟩
  | 56 => ⟨S1x1024x1024, .f32⟩
  | 57 => ⟨S1024x1024, .f32⟩
  | 58 => ⟨S4096x1024, .f32⟩
  | 59 => ⟨S4096x1024, .f32⟩
  | 60 => ⟨S_, .i32⟩
  | 61 => ⟨S4096, .i32⟩
  | 62 => ⟨S4096, .i1⟩
  | 63 => ⟨S4096, .f32⟩
  | 64 => ⟨S4096x1, .f32⟩
  | 65 => ⟨S4096x1024, .f32⟩
  | 66 => ⟨S4096x1024, .f32⟩
  | 67 => ⟨S1x1024x1024, .f32⟩
  | 68 => ⟨S1024x1024, .f32⟩
  | 69 => ⟨S4096x1024, .f32⟩
  | 70 => ⟨S4096x1024, .f32⟩
  | 71 => ⟨S_, .i32⟩
  | 72 => ⟨S4096, .i32⟩
  | 73 => ⟨S4096, .i1⟩
  | 74 => ⟨S4096, .f32⟩
  | 75 => ⟨S4096x1, .f32⟩
  | 76 => ⟨S4096x1024, .f32⟩
  | 77 => ⟨S4096x1024, .f32⟩
  | 78 => ⟨S1x1024x1024, .f32⟩
  | 79 => ⟨S1024x1024, .f32⟩
  | 80 => ⟨S4096x1024, .f32⟩
  | 81 => ⟨S4096x1024, .f32⟩
  | 82 => ⟨S_, .i32⟩
  | 83 => ⟨S4096, .i32⟩
  | 84 => ⟨S4096, .i1⟩
  | 85 => ⟨S4096, .f32⟩
  | 86 => ⟨S4096x1, .f32⟩
  | 87 => ⟨S4096x1024, .f32⟩
  | 88 => ⟨S4096x1024, .f32⟩
  | 89 => ⟨S1x1024x1024, .f32⟩
  | 90 => ⟨S1024x1024, .f32⟩
  | 91 => ⟨S4096x1024, .f32⟩
  | 92 => ⟨S4096x1024, .f32⟩
  | 93 => ⟨S_, .i32⟩
  | 94 => ⟨S4096, .i32⟩
  | 95 => ⟨S4096, .i1⟩
  | 96 => ⟨S4096, .f32⟩
  | 97 => ⟨S4096x1, .f32⟩
  | 98 => ⟨S4096x1024, .f32⟩
  | 99 => ⟨S4096x1024, .f32⟩
  | 100 => ⟨S1x1024x1024, .f32⟩
  | 101 => ⟨S1024x1024, .f32⟩
  | 102 => ⟨S4096x1024, .f32⟩
  | 103 => ⟨S4096x1024, .f32⟩
  | 104 => ⟨S_, .i32⟩
  | 105 => ⟨S4096, .i32⟩
  | 106 => ⟨S4096, .i1⟩
  | 107 => ⟨S4096, .f32⟩
  | 108 => ⟨S4096x1, .f32⟩
  | 109 => ⟨S4096x1024, .f32⟩
  | 110 => ⟨S4096x1024, .f32⟩
  | 111 => ⟨S1x1024x1024, .f32⟩
  | 112 => ⟨S1024x1024, .f32⟩
  | 113 => ⟨S4096x1024, .f32⟩
  | 114 => ⟨S4096x1024, .f32⟩
  | 115 => ⟨S_, .i32⟩
  | 116 => ⟨S_, .i32⟩
  | 117 => ⟨S8, .i32⟩
  | 118 => ⟨S1x8, .i32⟩
  | 119 => ⟨S4096, .i32⟩
  | 120 => ⟨S4096x1, .i32⟩
  | 121 => ⟨S4096x8, .i32⟩
  | 122 => ⟨S4096x8, .i32⟩
  | 123 => ⟨S4096x8, .i1⟩
  | 124 => ⟨S4096x8, .i32⟩
  | 125 => ⟨S_, .i32⟩
  | 126 => ⟨S4096, .i32⟩
  | 127 => ⟨S_, .i32⟩
  | _ => ⟨S4096x1024, .f32⟩

abbrev hbmTy0_1 (i : Nat) : BufTy := match i % 128 with
  | 0 => ⟨S_, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .f32⟩
  | 8 => ⟨S4096x1024, .f32⟩
  | 9 => ⟨S_, .i32⟩
  | 10 => ⟨S4096, .i32⟩
  | 11 => ⟨S4096, .i1⟩
  | 12 => ⟨S4096, .f32⟩
  | 13 => ⟨S4096x1, .f32⟩
  | 14 => ⟨S4096x1024, .f32⟩
  | 15 => ⟨S4096x1024, .f32⟩
  | 16 => ⟨S1x1024x1024, .f32⟩
  | 17 => ⟨S1024x1024, .f32⟩
  | 18 => ⟨S4096x1024, .f32⟩
  | 19 => ⟨S4096x1024, .f32⟩
  | 20 => ⟨S_, .i32⟩
  | 21 => ⟨S4096, .i32⟩
  | 22 => ⟨S4096, .i1⟩
  | 23 => ⟨S4096, .f32⟩
  | 24 => ⟨S4096x1, .f32⟩
  | 25 => ⟨S4096x1024, .f32⟩
  | 26 => ⟨S4096x1024, .f32⟩
  | 27 => ⟨S1x1024x1024, .f32⟩
  | 28 => ⟨S1024x1024, .f32⟩
  | 29 => ⟨S4096x1024, .f32⟩
  | 30 => ⟨S4096x1024, .f32⟩
  | 31 => ⟨S_, .i32⟩
  | 32 => ⟨S4096, .i32⟩
  | 33 => ⟨S4096, .i1⟩
  | 34 => ⟨S4096, .f32⟩
  | 35 => ⟨S4096x1, .f32⟩
  | 36 => ⟨S4096x1024, .f32⟩
  | 37 => ⟨S4096x1024, .f32⟩
  | 38 => ⟨S1x1024x1024, .f32⟩
  | 39 => ⟨S1024x1024, .f32⟩
  | 40 => ⟨S4096x1024, .f32⟩
  | 41 => ⟨S4096x1024, .f32⟩
  | 42 => ⟨S_, .i32⟩
  | 43 => ⟨S4096, .i32⟩
  | 44 => ⟨S4096, .i1⟩
  | 45 => ⟨S4096, .f32⟩
  | 46 => ⟨S4096x1, .f32⟩
  | 47 => ⟨S4096x1024, .f32⟩
  | 48 => ⟨S4096x1024, .f32⟩
  | 49 => ⟨S1x1024x1024, .f32⟩
  | 50 => ⟨S1024x1024, .f32⟩
  | 51 => ⟨S4096x1024, .f32⟩
  | 52 => ⟨S4096x1024, .f32⟩
  | 53 => ⟨S_, .i32⟩
  | 54 => ⟨S4096, .i32⟩
  | 55 => ⟨S4096, .i1⟩
  | 56 => ⟨S4096, .f32⟩
  | 57 => ⟨S4096x1, .f32⟩
  | 58 => ⟨S4096x1024, .f32⟩
  | 59 => ⟨S4096x1024, .f32⟩
  | 60 => ⟨S1x1024x1024, .f32⟩
  | 61 => ⟨S1024x1024, .f32⟩
  | 62 => ⟨S4096x1024, .f32⟩
  | 63 => ⟨S4096x1024, .f32⟩
  | 64 => ⟨S_, .i32⟩
  | 65 => ⟨S4096, .i32⟩
  | 66 => ⟨S4096, .i1⟩
  | 67 => ⟨S4096, .f32⟩
  | 68 => ⟨S4096x1, .f32⟩
  | 69 => ⟨S4096x1024, .f32⟩
  | 70 => ⟨S4096x1024, .f32⟩
  | 71 => ⟨S1x1024x1024, .f32⟩
  | 72 => ⟨S1024x1024, .f32⟩
  | 73 => ⟨S4096x1024, .f32⟩
  | 74 => ⟨S4096x1024, .f32⟩
  | 75 => ⟨S_, .i32⟩
  | 76 => ⟨S4096, .i32⟩
  | 77 => ⟨S4096, .i1⟩
  | 78 => ⟨S4096, .f32⟩
  | 79 => ⟨S4096x1, .f32⟩
  | 80 => ⟨S4096x1024, .f32⟩
  | 81 => ⟨S4096x1024, .f32⟩
  | 82 => ⟨S1x1024x1024, .f32⟩
  | 83 => ⟨S1024x1024, .f32⟩
  | 84 => ⟨S4096x1024, .f32⟩
  | 85 => ⟨S4096x1024, .f32⟩
  | 86 => ⟨S_, .i32⟩
  | 87 => ⟨S4096, .i32⟩
  | 88 => ⟨S4096, .i1⟩
  | 89 => ⟨S4096, .f32⟩
  | 90 => ⟨S4096x1, .f32⟩
  | 91 => ⟨S4096x1024, .f32⟩
  | 92 => ⟨S4096x1024, .f32⟩
  | 93 => ⟨S1x1024x1024, .f32⟩
  | 94 => ⟨S1024x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S4096x1024, .f32⟩
  | 106 => ⟨S4096x1024, .f32⟩
  | 107 => ⟨S_, .i32⟩
  | 108 => ⟨S_, .i32⟩
  | 109 => ⟨S8, .i32⟩
  | 110 => ⟨S1x8, .i32⟩
  | 111 => ⟨S4096, .i32⟩
  | 112 => ⟨S4096x1, .i32⟩
  | 113 => ⟨S4096x8, .i32⟩
  | 114 => ⟨S4096x8, .i32⟩
  | 115 => ⟨S4096x8, .i1⟩
  | 116 => ⟨S4096x8, .i32⟩
  | 117 => ⟨S_, .i32⟩
  | 118 => ⟨S4096, .i32⟩
  | 119 => ⟨S_, .i32⟩
  | 120 => ⟨S_, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S_, .f32⟩
  | _ => ⟨S4096x1024, .f32⟩

abbrev hbmTy0_2 (i : Nat) : BufTy := match i % 128 with
  | 0 => ⟨S4096x1024, .f32⟩
  | 1 => ⟨S_, .i32⟩
  | 2 => ⟨S4096, .i32⟩
  | 3 => ⟨S4096, .i1⟩
  | 4 => ⟨S4096, .f32⟩
  | 5 => ⟨S4096x1, .f32⟩
  | 6 => ⟨S4096x1024, .f32⟩
  | 7 => ⟨S4096x1024, .f32⟩
  | 8 => ⟨S1x1024x1024, .f32⟩
  | 9 => ⟨S1024x1024, .f32⟩
  | 10 => ⟨S4096x1024, .f32⟩
  | 11 => ⟨S4096x1024, .f32⟩
  | 12 => ⟨S_, .i32⟩
  | 13 => ⟨S4096, .i32⟩
  | 14 => ⟨S4096, .i1⟩
  | 15 => ⟨S4096, .f32⟩
  | 16 => ⟨S4096x1, .f32⟩
  | 17 => ⟨S4096x1024, .f32⟩
  | 18 => ⟨S4096x1024, .f32⟩
  | 19 => ⟨S1x1024x1024, .f32⟩
  | 20 => ⟨S1024x1024, .f32⟩
  | 21 => ⟨S4096x1024, .f32⟩
  | 22 => ⟨S4096x1024, .f32⟩
  | 23 => ⟨S_, .i32⟩
  | 24 => ⟨S4096, .i32⟩
  | 25 => ⟨S4096, .i1⟩
  | 26 => ⟨S4096, .f32⟩
  | 27 => ⟨S4096x1, .f32⟩
  | 28 => ⟨S4096x1024, .f32⟩
  | 29 => ⟨S4096x1024, .f32⟩
  | 30 => ⟨S1x1024x1024, .f32⟩
  | 31 => ⟨S1024x1024, .f32⟩
  | 32 => ⟨S4096x1024, .f32⟩
  | 33 => ⟨S4096x1024, .f32⟩
  | 34 => ⟨S_, .i32⟩
  | 35 => ⟨S4096, .i32⟩
  | 36 => ⟨S4096, .i1⟩
  | 37 => ⟨S4096, .f32⟩
  | 38 => ⟨S4096x1, .f32⟩
  | 39 => ⟨S4096x1024, .f32⟩
  | 40 => ⟨S4096x1024, .f32⟩
  | 41 => ⟨S1x1024x1024, .f32⟩
  | 42 => ⟨S1024x1024, .f32⟩
  | 43 => ⟨S4096x1024, .f32⟩
  | 44 => ⟨S4096x1024, .f32⟩
  | 45 => ⟨S_, .i32⟩
  | 46 => ⟨S4096, .i32⟩
  | 47 => ⟨S4096, .i1⟩
  | 48 => ⟨S4096, .f32⟩
  | 49 => ⟨S4096x1, .f32⟩
  | 50 => ⟨S4096x1024, .f32⟩
  | 51 => ⟨S4096x1024, .f32⟩
  | 52 => ⟨S1x1024x1024, .f32⟩
  | 53 => ⟨S1024x1024, .f32⟩
  | 54 => ⟨S4096x1024, .f32⟩
  | 55 => ⟨S4096x1024, .f32⟩
  | 56 => ⟨S_, .i32⟩
  | 57 => ⟨S4096, .i32⟩
  | 58 => ⟨S4096, .i1⟩
  | 59 => ⟨S4096, .f32⟩
  | 60 => ⟨S4096x1, .f32⟩
  | 61 => ⟨S4096x1024, .f32⟩
  | 62 => ⟨S4096x1024, .f32⟩
  | 63 => ⟨S1x1024x1024, .f32⟩
  | 64 => ⟨S1024x1024, .f32⟩
  | 65 => ⟨S4096x1024, .f32⟩
  | 66 => ⟨S4096x1024, .f32⟩
  | 67 => ⟨S_, .i32⟩
  | 68 => ⟨S4096, .i32⟩
  | 69 => ⟨S4096, .i1⟩
  | 70 => ⟨S4096, .f32⟩
  | 71 => ⟨S4096x1, .f32⟩
  | 72 => ⟨S4096x1024, .f32⟩
  | 73 => ⟨S4096x1024, .f32⟩
  | 74 => ⟨S1x1024x1024, .f32⟩
  | 75 => ⟨S1024x1024, .f32⟩
  | 76 => ⟨S4096x1024, .f32⟩
  | 77 => ⟨S4096x1024, .f32⟩
  | 78 => ⟨S_, .i32⟩
  | 79 => ⟨S4096, .i32⟩
  | 80 => ⟨S4096, .i1⟩
  | 81 => ⟨S4096, .f32⟩
  | 82 => ⟨S4096x1, .f32⟩
  | 83 => ⟨S4096x1024, .f32⟩
  | 84 => ⟨S4096x1024, .f32⟩
  | 85 => ⟨S1x1024x1024, .f32⟩
  | 86 => ⟨S1024x1024, .f32⟩
  | 87 => ⟨S4096x1024, .f32⟩
  | 88 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_9 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_call2_call0_c : Ref sig .tc := ⟨.hbm, 115, rfl⟩
abbrev main_call2_call0_v0 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_10 : Ref sig .tc := ⟨.hbm, 125, rfl⟩
abbrev main_v99 : Ref sig .tc := ⟨.hbm, 126, rfl⟩
abbrev main_c_11 : Ref sig .tc := ⟨.hbm, 127, rfl⟩
abbrev main_c_12 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v100 : Ref sig .tc := ⟨.hbm, 134, rfl⟩
abbrev main_cst_13 : Ref sig .tc := ⟨.hbm, 135, rfl⟩
abbrev main_v101 : Ref sig .tc := ⟨.hbm, 136, rfl⟩
abbrev main_c_14 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_15 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_16 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_17 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_c_18 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_c_19 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_20 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_c_21 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_call4_v0 : Ref sig .tc := ⟨.hbm, 225, rfl⟩
abbrev main_call4_v1 : Ref sig .tc := ⟨.hbm, 226, rfl⟩
abbrev main_call4_cst : Ref sig .tc := ⟨.hbm, 227, rfl⟩
abbrev main_call4_v2 : Ref sig .tc := ⟨.hbm, 228, rfl⟩
abbrev main_call4_v3 : Ref sig .tc := ⟨.hbm, 229, rfl⟩
abbrev main_call4_cst_0 : Ref sig .tc := ⟨.hbm, 230, rfl⟩
abbrev main_call4_v4 : Ref sig .tc := ⟨.hbm, 231, rfl⟩
abbrev main_call4_v5 : Ref sig .tc := ⟨.hbm, 232, rfl⟩
abbrev main_v182 : Ref sig .tc := ⟨.hbm, 233, rfl⟩
abbrev main_v183 : Ref sig .tc := ⟨.hbm, 234, rfl⟩
abbrev main_call5_call0_c : Ref sig .tc := ⟨.hbm, 235, rfl⟩
abbrev main_call5_call0_v0 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_c_22 : Ref sig .tc := ⟨.hbm, 245, rfl⟩
abbrev main_v192 : Ref sig .tc := ⟨.hbm, 246, rfl⟩
abbrev main_c_23 : Ref sig .tc := ⟨.hbm, 247, rfl⟩
abbrev main_c_24 : Ref sig .tc := ⟨.hbm, 248, rfl⟩
abbrev main_call6_v0 : Ref sig .tc := ⟨.hbm, 249, rfl⟩
abbrev main_call6_v1 : Ref sig .tc := ⟨.hbm, 250, rfl⟩
abbrev main_call6_v2 : Ref sig .tc := ⟨.hbm, 251, rfl⟩
abbrev main_call6_v3 : Ref sig .tc := ⟨.hbm, 252, rfl⟩
abbrev main_call6_v4 : Ref sig .tc := ⟨.hbm, 253, rfl⟩
abbrev main_v193 : Ref sig .tc := ⟨.hbm, 254, rfl⟩
abbrev main_cst_25 : Ref sig .tc := ⟨.hbm, 255, rfl⟩
abbrev main_v194 : Ref sig .tc := ⟨.hbm, 256, rfl⟩
abbrev main_c_26 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_c_27 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_c_28 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_c_29 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_c_30 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_c_31 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_c_32 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_c_33 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩

abbrev nD : Nat := 1
abbrev τ : Topo := Topo.v7x

variable {F : FTy → Type} [FloatOps F]
-- ==== Proof.Body.lean ====
/-
  What one call of the kernel's body does to the buffers it is handed, in each of its two cases.
  In the first case (the first four points of an expert) it writes one tile of 256 columns of the hidden
  activations into the scratch; in the second (the last four points) it reads the whole scratch and writes one
  tile of 256 columns of the output.
-/
module

public import proofs.«01_k».proof.Proof.Gen.KernelIdeal.Frame
public import proofs.«01_k».proof.Proof.Gen.KernelIdeal.Skeleton
public import Idealize.ShloMosaic.Lib.Pipeline.Value
public import Idealize.ShloMosaic.Lib.WritesUnit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition holds at the first four points of each expert. -/
theorem hid_iff : ∀ t : Fin cfg0.N, k0_cond1 (grid0.coords t) = 1#1 ↔ t.val % 8 ≤ 3 :=
  (by decide +kernel : ∀ t : Fin grid0.N, k0_cond1 (grid0.coords t) = 1#1 ↔ t.val % 8 ≤ 3)

/-- The body's second condition holds at the last four points of each expert. -/
theorem out_iff : ∀ t : Fin cfg0.N, k0_cond2 (grid0.coords t) = 1#1 ↔ 4 ≤ t.val % 8 :=
  (by decide +kernel : ∀ t : Fin grid0.N, k0_cond2 (grid0.coords t) = 1#1 ↔ 4 ≤ t.val % 8)

theorem zero2 : (![0, 0] : Fin 2 → ℕ) = fun _ => 0 := by decide
theorem zero3 : (![0, 0, 0] : Fin 3 → ℕ) = fun _ => 0 := by decide

/-- One store over a whole buffer leaves what was stored, whatever the buffer held before. -/
theorem read_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  funext y
  exact View.read_writes_cons_unit_of_mem v f inb w [] y y h fun a => (Nat.zero_add _).symm

/-- The scratch after the first case: a tile `w` of 256 columns, from column `o` on, over what the scratch held. -/
def tiled (o : ℕ) (w : Vec F S512x256 .f32) (d : Vec F S512x1024 .f32) : Vec F S512x1024 .f32 := fun y =>
  if h : ∀ a, (![0, o] : Fin 2 → ℕ) a ≤ (y a).val ∧ (y a).val < (![0, o] : Fin 2 → ℕ) a + S512x256.size a then
    w (Rect.unitLocal (s := S512x1024) (off := ![0, o]) (size := S512x256.size) y h)
  else d y

set_option maxHeartbeats 1000000 in
/-- The body in its first case, on whole buffers: the inputs and the output buffer come back as they were, the
    scratch with one tile of hidden activations written over it. -/
theorem run_hid (c : Dev nD) (i : grid0.Coords) (arg2 : Memref sig .tc .vmem S512x1024 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S512x256 .f32) (harg6 : arg6.IsWhole) (arg7 : Memref sig .tc .vmem S512x1024 .f32) (harg7 : arg7.IsWhole) (hc0 : k0_cond1 i = 1#1) (hc1 : ¬k0_cond2 i = 1#1)
    (x0 : Vec F S512x1024 .f32) (x1 : Vec F S1x1024x256 .f32) (x2 : Vec F S1x1024x256 .f32) (x3 : Vec F S1x1024x256 .f32) (x4 : Vec F S512x256 .f32) (d : Vec F S512x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tiled (256 * (i 1).val) (k0_pay1 x0 x1 x2) d)) -∗ K ⟨⟩))
          ⊢ wp frame (wpE (defs₀ (F := F)) Variants.none c none) E (cc0__moe_mlp_kernel i arg2 harg2 arg3 harg3 arg4 harg4 arg5 harg5 arg6 harg6 arg7 harg7) K := by
    intro E K
    simp only [cc0__moe_mlp_kernel_eq_skeleton]; unfold cc0__moe_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact HS0
    ipureintro
    rw [View.readAt_eq_ld, hf0, View.readAt_eq_ld, hf1, View.readAt_eq_ld, hf2]
    rw [View.ld_unit_zero (S := S512x1024) zero2, View.ld_unit_zero (S := S1x1024x256) zero3, View.ld_unit_zero (S := S1x1024x256) zero3]
    funext y
    rw [View.read_writes_cons_unit _ _ _ _ _ y (k0_off1_eq i), View.writes_nil, hfs0]
    rfl

set_option maxHeartbeats 1000000 in
/-- The body in its second case, on whole buffers: the inputs and the scratch come back as they were, the output
    buffer holding the product of the whole scratch with the tile of the third weight. -/
theorem run_out (c : Dev nD) (i : grid0.Coords) (arg2 : Memref sig .tc .vmem S512x1024 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S512x256 .f32) (harg6 : arg6.IsWhole) (arg7 : Memref sig .tc .vmem S512x1024 .f32) (harg7 : arg7.IsWhole) (hc0 : ¬k0_cond1 i = 1#1) (hc1 : k0_cond2 i = 1#1)
    (x0 : Vec F S512x1024 .f32) (x1 : Vec F S1x1024x256 .f32) (x2 : Vec F S1x1024x256 .f32) (x3 : Vec F S1x1024x256 .f32) (x4 : Vec F S512x256 .f32) (d : Vec F S512x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 d x3) ∗ owns (c : Thread nD τ) arg7 fullShare d) -∗ K ⟨⟩))
          ⊢ wp frame (wpE (defs₀ (F := F)) Variants.none c none) E (cc0__moe_mlp_kernel i arg2 harg2 arg3 harg3 arg4 harg4 arg5 harg5 arg6 harg6 arg7 harg7) K := by
    intro E K
    simp only [cc0__moe_mlp_kernel_eq_skeleton]; unfold cc0__moe_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.readAt_eq_ld, hfs0, View.readAt_eq_ld, hf3]
      rw [View.ld_unit_zero (S := S512x1024) zero2, View.ld_unit_zero (S := S1x1024x256) zero3]
      exact read_whole_store (F := F) arg6.view _ zero2 inb_S512x256_S512x256_0_0 _
    iexists _; isplitr; · ipureintro; exact harg7.read_unread _
    iexact HS0

end Cert.KernelIdeal.Hand

end
-- ==== Proof.Launch.lean ====
/-
  What the scratch and the output buffer hold at each of the 64 points, and the run of the whole grid.
  Point `8 e + k` of the grid belongs to expert `e`. While `k < 4` the body fills the scratch, one tile of 256
  columns a point; from `k = 4` on the scratch holds all the hidden activations of the expert.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, point by point -/

/-- The grid has 64 points. -/
theorem lt64 (t : Fin cfg0.N) : t.val < 64 := lt_of_lt_of_eq t.isLt (show cfg0.N = 64 from N_0)

/-- The point numbered `n` (taken modulo 64). -/
def pt (n : ℕ) : Fin cfg0.N := ⟨n % 64, lt_of_lt_of_eq (Nat.mod_lt n (by decide)) (show 64 = cfg0.N from N_0.symm)⟩

theorem pt_val (t : Fin cfg0.N) : pt t.val = t := Fin.ext (Nat.mod_eq_of_lt (lt64 t))

/-- A point's second coordinate is its number modulo 8. -/
theorem step_val : ∀ t : Fin cfg0.N, (grid0.coords t 1).val = t.val % 8 :=
  (by decide +kernel : ∀ t : Fin grid0.N, (grid0.coords t 1).val = t.val % 8)

/-- The tile of hidden activations the body computes at point `t`. -/
def hidTile (c : Dev nD) (t : Fin cfg0.N) : Vec F S512x256 .f32 := k0_pay1 (iblk m c 0 t) (iblk m c 1 t) (iblk m c 2 t)

/-- All the hidden activations of expert `e`: column `f` lies in the tile of point `8 e + f / 256`. -/
def hid (c : Dev nD) (e : ℕ) : Vec F S512x1024 .f32 := fun y =>
  hidTile m c (pt (8 * e + (y 1).val / 256)) (fun a => match a with
    | ⟨0, _⟩ => ⟨(y 0).val, (y 0).isLt⟩
    | ⟨1, _⟩ => ⟨(y 1).val % 256, Nat.mod_lt _ (by decide)⟩)

/-- What is known of the scratch before point `n`: as many tiles as the expert has had points, at most four. -/
def Filled (c : Dev nD) (n : ℕ) (d : Vec F S512x1024 .f32) : Prop :=
  ∀ y : S512x1024.Idx, (y 1).val < 256 * min (n % 8) 4 → d y = hid m c (n / 8) y

/-- Before the first point of an expert nothing is asked of the scratch. -/
theorem filled_start (c : Dev nD) {n : ℕ} (h : n % 8 = 0) (d : Vec F S512x1024 .f32) : Filled m c n d := fun y hy => by
  rw [h] at hy; exact absurd hy (by simp)

/-- A point of the first case adds its tile. -/
theorem filled_tiled (c : Dev nD) (t : Fin cfg0.N) (h : t.val % 8 ≤ 3) {d : Vec F S512x1024 .f32} (hd : Filled m c t.val d) :
    Filled m c (t.val + 1) (tiled (256 * (t.val % 8)) (hidTile m c t) d) := fun y hy => by
  have h1 : (t.val + 1) % 8 = t.val % 8 + 1 := by omega
  have h2 : (t.val + 1) / 8 = t.val / 8 := by omega
  rw [h1, Nat.min_eq_left (by omega)] at hy
  rw [h2]
  unfold tiled
  split
  · rename_i hin
    have hlo : 256 * (t.val % 8) ≤ (y 1).val := (hin 1).1
    have hk : (y 1).val / 256 = t.val % 8 := by omega
    have hp : pt (8 * (t.val / 8) + (y 1).val / 256) = t := by
      rw [hk, Nat.div_add_mod]; exact pt_val t
    unfold hid
    rw [hp]
    refine congrArg (hidTile m c t) (funext fun a => Fin.ext ?_)
    match a with
    | ⟨0, _⟩ => exact Nat.sub_zero _
    | ⟨1, _⟩ => show (y 1).val - 256 * (t.val % 8) = (y 1).val % 256; omega
  · rename_i hout
    refine hd y ?_
    rw [Nat.min_eq_left (by omega)]
    by_contra hge
    have h0 : (y 0).val < 512 := (y 0).isLt
    refine hout (Fin.forall_fin_two.mpr ⟨⟨Nat.zero_le _, ?_⟩, ?_, ?_⟩)
    · show (y 0).val < 0 + 512; omega
    · show 256 * (t.val % 8) ≤ (y 1).val; omega
    · show (y 1).val < 256 * (t.val % 8) + 256; omega

/-- At a point of the second case the scratch is the whole of the expert's hidden activations, -/
theorem filled_all (c : Dev nD) (t : Fin cfg0.N) (h : 4 ≤ t.val % 8) {d : Vec F S512x1024 .f32} (hd : Filled m c t.val d) :
    d = hid m c (t.val / 8) := funext fun y => hd y (by
  have h1 : (y 1).val < 1024 := (y 1).isLt
  rw [Nat.min_eq_right h]; omega)

/-- and it is kept to the next point. -/
theorem filled_keep (c : Dev nD) (t : Fin cfg0.N) (h : 4 ≤ t.val % 8) : Filled m c (t.val + 1) (hid m c (t.val / 8)) := by
  by_cases h7 : t.val % 8 = 7
  · exact filled_start m c (by omega) _
  · intro y _
    rw [show (t.val + 1) / 8 = t.val / 8 by omega]

/-! ## The proof data -/

/-- The invariant before point `n`: the scratch holds what is known of it, the generator register anything. -/
def PhiS (c : Dev nD) (n : ℕ) (_ : n ≤ cfg0.N) : sProp 𝕄 :=
  iprop((∃ d, ⌜Filled m c n d⌝ ∗ owns (c : Thread nD τ) (Memref.whole cc0_scratch0 : Memref sig .tc .vmem S512x1024 .f32) fullShare d) ∗ (∃ r, prngReg c r))

/-- The invariant of the launch, with the scratch as a memref owned at some contents. -/
theorem PhiA_eq (c : Dev nD) :
    (Pipeline.ΦA spec0 c : sProp 𝕄)
      = iprop((∃ d, owns (c : Thread nD τ) (Memref.whole cc0_scratch0 : Memref sig .tc .vmem S512x1024 .f32) fullShare d) ∗ (∃ r, prngReg c r)) := by
  unfold Pipeline.ΦA; rw [scopedRest0_eq]; simp only [owns_whole]; try rfl

/-- Each buffer after the body at point `t`: an input's block stays, the output buffer holds the product of the
    expert's hidden activations with the block of the third weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hid m c (t.val / 8)) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (hid m c (t.val / 8)) (iblk m c 3 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- The invariant at a point's start and at its end. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := rfl

/-- The output window is idle in the first case, -/
theorem idle_4 : ∀ t : Fin cfg0.N, t.val % 8 ≤ 3 → cfg0.idle 4 (grid0.coords t) = true :=
  (by decide +kernel : ∀ t : Fin grid0.N, t.val % 8 ≤ 3 → cfg0.idle 4 (grid0.coords t) = true)
/-- live in the second, -/
theorem live_4 : ∀ t : Fin cfg0.N, 4 ≤ t.val % 8 → cfg0.idle 4 (grid0.coords t) = false :=
  (by decide +kernel : ∀ t : Fin grid0.N, 4 ≤ t.val % 8 → cfg0.idle 4 (grid0.coords t) = false)
/-- and it is not written back at a point of the first case. -/
theorem noflush_4 : ∀ t : Fin cfg0.N, t.val % 8 ≤ 3 → (cfg0.win 4).flush t = false :=
  (by decide +kernel : ∀ t : Fin grid0.N, t.val % 8 ≤ 3 → win0_4.flush t = false)

/-! ## The body at a point -/

/-- The staging memrefs at point `t`. -/
abbrev ms_0 (t : Fin cfg0.N) : Memref sig .tc .vmem S512x1024 .f32 := win0_0.stage (cfg0.slots t 0)
abbrev ms_1 (t : Fin cfg0.N) : Memref sig .tc .vmem S1x1024x256 .f32 := win0_1.stage (cfg0.slots t 1)
abbrev ms_2 (t : Fin cfg0.N) : Memref sig .tc .vmem S1x1024x256 .f32 := win0_2.stage (cfg0.slots t 2)
abbrev ms_3 (t : Fin cfg0.N) : Memref sig .tc .vmem S1x1024x256 .f32 := win0_3.stage (cfg0.slots t 3)
abbrev ms_4 (t : Fin cfg0.N) : Memref sig .tc .vmem S512x256 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window is handed back at its block. -/
theorem leaves_0 (c : Dev nD) (t : Fin cfg0.N) : (dats m 0 c).leavesExact 0 t = owns (c : Thread nD τ) (ms_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms_3 t) fullShare (iblk m c 3 t) := by
  unfold Dat.leavesExact; rw [show cfg0.idle 3 (grid0.coords t) = false from rfl, after_3]
/-- The output window is handed back as found in the first case, at the product in the second. -/
theorem leaves_4_idle (c : Dev nD) (t : Fin cfg0.N) (h : t.val % 8 ≤ 3) :
    (dats m 0 c).leavesExact 4 t = iprop(∃ d, owns (c : Thread nD τ) (ms_4 t) fullShare ((dats m 0 c).before 4 t d)) :=
  Dat.leavesExact_idle _ 4 t (idle_4 t h) (noflush_4 t h)
theorem leaves_4_live (c : Dev nD) (t : Fin cfg0.N) (h : 4 ≤ t.val % 8) :
    (dats m 0 c).leavesExact 4 t = owns (c : Thread nD τ) (ms_4 t) fullShare (k0_pay2 (hid m c (t.val / 8)) (iblk m c 3 t)) := by
  unfold Dat.leavesExact; rw [show cfg0.idle 4 (cfg0.grid.coords t) = false from live_4 t h, after_4]

set_option maxHeartbeats 800000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, Phi_succ, Phi_castSucc,
    show (dats m 0 c).owesAt () t.succ = (dats m 0 c).owesAt () t.castSucc from rfl]
  unfold PhiS
  by_cases h : t.val % 8 ≤ 3
  · rw [leaves_4_idle m c t h]
    iintro ⟨⟨⟨%ds, %hds, HS⟩, Hg⟩, Ho, ⟨%d0, H0⟩, ⟨%d1, H1⟩, ⟨%d2, H2⟩, ⟨%d3, H3⟩, ⟨%d4, H4⟩⟩
    have hnew := filled_tiled m c t h hds
    rw [← step_val t] at hnew
    iapply ((run_hid c (grid0.coords t) _ _ _ _ _ _ _ _ _ _ _ _ ((hid_iff t).mpr h) (fun h' => absurd ((out_iff t).mp h') (by omega)) (iblk m c 0 t) (iblk m c 1 t) (iblk m c 2 t) (iblk m c 3 t) _ ds) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; swap; · iexact HS
        ipureintro; exact hnew
      iexact Hg
    isplitl [Ho]; · iexact Ho
    isplitl [H0]; · iexact H0
    isplitl [H1]; · iexact H1
    isplitl [H2]; · iexact H2
    isplitl [H3]; · iexact H3
    iexists _; iexact H4
  · have h' : 4 ≤ t.val % 8 := by omega
    rw [leaves_4_live m c t h']
    iintro ⟨⟨⟨%ds, %hds, HS⟩, Hg⟩, Ho, ⟨%d0, H0⟩, ⟨%d1, H1⟩, ⟨%d2, H2⟩, ⟨%d3, H3⟩, ⟨%d4, H4⟩⟩
    obtain rfl := filled_all m c t h' hds
    iapply ((run_out c (grid0.coords t) _ _ _ _ _ _ _ _ _ _ _ _ (fun h'' => h ((hid_iff t).mp h'')) ((out_iff t).mpr h') (iblk m c 0 t) (iblk m c 1 t) (iblk m c 2 t) (iblk m c 3 t) _ (hid m c (t.val / 8))) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; swap; · iexact HS
        ipureintro; exact filled_keep m c t h'
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The body does its part at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the launch gives the invariant, -/
theorem phi_in (c : Dev nD) : Pipeline.ΦA spec0 c ⊢ (dats m 0 c).Φ 0 := by
  rw [show (dats m 0 c).Φ 0 = PhiS m c 0 (Nat.zero_le _) from rfl, PhiA_eq]
  unfold PhiS
  iintro ⟨⟨%d, H⟩, Hg⟩
  isplitl [H]
  · iexists d; isplitr; · ipureintro; exact filled_start m c rfl d
    iexact H
  iexact Hg

/-- and after the last point the invariant gives back the scratch at some contents. -/
theorem phi_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%d, -, H⟩, Hg⟩
  isplitl [H]
  · iexists d; iexact H
  iexact Hg

set_option backward.isDefEq.respectTransparency.types false in
/-- Every execution of the program terminates, each array at what the proof data say, every counter at zero. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The same without the counters. -/
theorem run_post : θ_run defs (onTc (τ := τ) (main (F := F))) (s₀ m ρ) (Pipeline.FramePost cfgs (dats m) 0 (V m)) :=
  (θ_run defs _ _).mono (fun _ h => h.1) (run_quiet m ρ)

/-- The program terminates with its arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_quiet m ρ))

end Cert.KernelIdeal.Hand

end
-- ==== Proof.KernelFrame.lean ====
module

public import proofs.«01_k».proof.Defs
public import proofs.«01_k».proof.Proof.Gen.Kernel
public import proofs.«01_k».proof.Proof.Launch

/-
  The frame of the program before idealization. Nothing of this kernel was rewritten, so the two programs are the
  same text under two names: once their tables of bodies are known to be equal, the frame of the one is the frame of
  the other, read at bit patterns.
-/

@[expose] public section

noncomputable section

namespace Cert.Kernel.Hand

open Idealize.ShloMosaic Idealize.ShloMosaic.TcCoe Idealize.SL.Sem

variable {F : FTy → Type} [FloatOps F] [Cert.Kernel.Facts] [Cert.KernelIdeal.Facts]

/-- The two tables give the kernel's one label the same body. -/
theorem bodies_eq : @Cert.Kernel.defs₀ F _ _ = @Cert.KernelIdeal.defs₀ F _ _ := by
  unfold Cert.Kernel.defs₀ Cert.KernelIdeal.defs₀
  refine congrArg Defs.onTc (funext fun l => ?_)
  match l with
  | 0 => rfl

/-- The tables stay equal when the pipeline around the body is added to both. -/
theorem tables_eq : @Cert.Kernel.defs F _ _ = @Cert.KernelIdeal.defs F _ _ :=
  congrArg (Pipeline.defs Cert.KernelIdeal.pcfgs) bodies_eq

/-- The program terminates with its arguments unchanged and every counter at zero. -/
theorem frame_bits : Cert.quiescent_Kernel (hKernel := Cert.Kernel.Gen.facts) := by
  intro m ρ _
  rw [tables_eq]
  exact Cert.KernelIdeal.Hand.frame_all (F := Bits) m ρ

end Cert.Kernel.Hand

end
-- ==== Proof.Spec.lean ====
/- The mathematics both programs compute, with no program in it: token `t` belongs to expert `t / 512`, a projection
   multiplies its row by that expert's matrix, and the expert's network is two projections, the gated product of the
   two, and a third projection. All values are extended reals. -/
module

public import Idealize.ShloMosaic.Lib.ValueIdx
public import Idealize.ShloMosaic.PureOps.Ideal.Laws

@[expose] public section

noncomputable section

namespace Cert.Spec

open Idealize.ShloMosaic Idealize.ShloMosaic.ValueIdx

/-- The token rows: 4096 rows of 1024 numbers. -/
abbrev Rows := FVec Ideal ⟨2, ![4096, 1024]⟩ .f32
/-- One matrix for each of the 8 experts. -/
abbrev Mats := FVec Ideal ⟨3, ![8, 1024, 1024]⟩ .f32

/-- The expert of token `t`, when every group holds 512 tokens. -/
def expert (t : Fin 4096) : Fin 8 := ⟨t.val / 512, by have := t.isLt; omega⟩

/-- Column `n` of row `t` times its expert's matrix. -/
def proj (x : Rows) (w : Mats) (t : Fin 4096) (n : Fin 1024) : EReal :=
  ∑ k : Fin 1024, x (ix2 t k) * w (ix3 (expert t) k n)

/-- The gated product: the first projection times its logistic, times the second projection. -/
def gated (x : Rows) (g u : Mats) : Rows := fun i =>
  proj x g (i 0) (i 1) * Ideal.logistic (proj x g (i 0) (i 1)) * proj x u (i 0) (i 1)

/-- The whole network: the gated product, projected once more. -/
def network (x : Rows) (g u d : Mats) : Rows := fun i => proj (gated x g u) d (i 0) (i 1)

end Cert.Spec

end
-- ==== Proof.Tiles.lean ====
/- What the two cases of the kernel's body compute, read at an index: a product of a row block by a column tile, and
   the gated product of two of them. -/
module

public import proofs.«01_k».proof.Proof.Launch
public import Idealize.ShloMosaic.Lib.MatmulPlain
public import Idealize.ShloMosaic.Lib.ValueIdx
public import Idealize.ShloMosaic.PureOps.Ideal.Laws

@[expose] public section

noncomputable section

namespace Cert.KernelIdeal.Hand

open Cert.KernelIdeal Cert.KernelIdeal.Gen Idealize.ShloMosaic Idealize.ShloMosaic.ValueIdx

/-- Row `r` of a block times column `q` of one matrix's tile. -/
def tileSum (x : FVec Ideal S512x1024 .f32) (w : FVec Ideal S1x1024x256 .f32) (r : Fin 512) (q : Fin 256) : EReal :=
  ∑ k : Fin 1024, x (ix2 r k) * w (ix3 0 k q)

/-- The body's matrix product, with a tile of one matrix as its right side and zeros to start from. -/
theorem product_apply (x : FVec Ideal S512x1024 .f32) (w : FVec Ideal S1x1024x256 .f32) (r : Fin 512) (q : Fin 256) :
    matmul dot_S512x1024_S1024x256_S512x256_1_0_0_1_n_n none x (shapeCast S1024x256 w shapeCasts_S1x1024x256_S1024x256)
      (constant (F := Ideal) S512x256 .f32 0x00000000#32) (ix2 r q) = tileSum x w r q := by
  have hz : constant (F := Ideal) S512x256 .f32 0x00000000#32 (ix2 r q) = (0 : EReal) := Ideal.ofBits_zero_f32
  refine (Ideal.matmul_plain_apply (M := 512) (K := 1024) (N := 256) none x _ _ r q).trans ?_
  rw [hz, zero_add]
  refine Finset.sum_congr rfl fun k _ => congrArg (x (ix2 r k) * ·) ?_
  exact shapeCast_apply w shapeCasts_S1x1024x256_S1024x256 (ix2 k q) (ix3 0 k q) (by
    rw [Shape.rowMajor_val_three, Shape.rowMajor_val_two]
    show (0 * 1024 + k.val) * 256 + q.val = k.val * 256 + q.val
    omega)

/-- The first case's tile: the gated product. -/
theorem pay1_apply (x : FVec Ideal S512x1024 .f32) (g u : FVec Ideal S1x1024x256 .f32) (r : Fin 512) (q : Fin 256) :
    k0_pay1 (F := Ideal) x g u (ix2 r q) = tileSum x g r q * Ideal.logistic (tileSum x g r q) * tileSum x u r q := by
  rw [← product_apply x g, ← product_apply x u]
  unfold k0_pay1
  exact (shapeCast_apply _ shapeCasts_S512x256_S512x256 (ix2 r q) (ix2 r q) rfl).trans rfl

/-- The second case's tile: one product. -/
theorem pay2_apply (h : FVec Ideal S512x1024 .f32) (d : FVec Ideal S1x1024x256 .f32) (r : Fin 512) (q : Fin 256) :
    k0_pay2 (F := Ideal) h d (ix2 r q) = tileSum h d r q := product_apply h d r q

end Cert.KernelIdeal.Hand

end
-- ==== Proof.Blocks.lean ====
/- Where the kernel's blocks lie in its arrays. Point `t` is of expert `t / 8` and step `t % 8`: it sees the expert's
   512 rows, the tile of column group `min step 3` of the first two matrices, and the tile of column group `step - 4`
   (0 before step 4) of the third; the result's block is those rows at that last column group. -/
module

public import proofs.«01_k».proof.Proof.Launch
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The block each window takes at point `t`. -/
theorem at_point : ∀ t : Fin cfg0.N,
    win0_0.index t = ![t.val / 8, 0] ∧ win0_1.index t = ![t.val / 8, 0, min (t.val % 8) 3]
      ∧ win0_2.index t = ![t.val / 8, 0, min (t.val % 8) 3] ∧ win0_3.index t = ![t.val / 8, 0, t.val % 8 - 4]
      ∧ win0_4.index t = ![t.val / 8, t.val % 8 - 4] :=
  (by decide +kernel : ∀ t : Fin grid0.N, _)

/-- The row of the token array that row `r` of point `t`'s block is. -/
def rowOf (t : Fin cfg0.N) (r : Fin 512) : Fin 4096 := ⟨512 * (t.val / 8) + r.val, by have := lt64 t; have := r.isLt; omega⟩
/-- The expert of point `t`. -/
def expertOf (t : Fin cfg0.N) : Fin 8 := ⟨t.val / 8, by have := lt64 t; omega⟩
/-- The column of the first two matrices that column `q` of point `t`'s tile is. -/
def inCol (t : Fin cfg0.N) (q : Fin 256) : Fin 1024 := ⟨256 * min (t.val % 8) 3 + q.val, by have := q.isLt; omega⟩
/-- The column of the third matrix, and of the result, that column `q` of point `t`'s tile is. -/
def outCol (t : Fin cfg0.N) (q : Fin 256) : Fin 1024 := ⟨256 * (t.val % 8 - 4) + q.val, by have := q.isLt; omega⟩

/-- The block of tokens, read in the token array. -/
theorem rows_read (c : Dev nD) (t : Fin cfg0.N) (r : Fin 512) (k : Fin 1024) :
    iblk m c 0 t (ValueIdx.ix2 r k) = m ((c : Thread nD τ).loc main_arg0) (ValueIdx.ix2 (rowOf t r) k) := by
  blk_ext [iblk, V, at_point t, rowOf]
  show t.val / 8 * 512 + r.val = 512 * (t.val / 8) + r.val
  omega

/-- The first matrix's tile, read in the stack. -/
theorem gate_read (c : Dev nD) (t : Fin cfg0.N) (k : Fin 1024) (q : Fin 256) :
    iblk m c 1 t (ValueIdx.ix3 0 k q) = m ((c : Thread nD τ).loc main_arg2) (ValueIdx.ix3 (expertOf t) k (inCol t q)) := by
  blk_ext [iblk, V, at_point t, expertOf, inCol]
  show min (t.val % 8) 3 * 256 + q.val = 256 * min (t.val % 8) 3 + q.val
  omega

/-- The second matrix's tile, read in the stack. -/
theorem up_read (c : Dev nD) (t : Fin cfg0.N) (k : Fin 1024) (q : Fin 256) :
    iblk m c 2 t (ValueIdx.ix3 0 k q) = m ((c : Thread nD τ).loc main_arg3) (ValueIdx.ix3 (expertOf t) k (inCol t q)) := by
  blk_ext [iblk, V, at_point t, expertOf, inCol]
  show min (t.val % 8) 3 * 256 + q.val = 256 * min (t.val % 8) 3 + q.val
  omega

/-- The third matrix's tile, read in the stack. -/
theorem down_read (c : Dev nD) (t : Fin cfg0.N) (k : Fin 1024) (q : Fin 256) :
    iblk m c 3 t (ValueIdx.ix3 0 k q) = m ((c : Thread nD τ).loc main_arg4) (ValueIdx.ix3 (expertOf t) k (outCol t q)) := by
  blk_ext [iblk, V, at_point t, expertOf, outCol]
  show (t.val % 8 - 4) * 256 + q.val = 256 * (t.val % 8 - 4) + q.val
  omega

/-- Where index `(r, q)` of the result's block at point `t` lies in the result. -/
theorem result_at (t : Fin cfg0.N) (r : Fin 512) (q : Fin 256) :
    ((cfg0.win 4).blk t).view.emb (ValueIdx.ix2 r q) = ValueIdx.ix2 (rowOf t r) (outCol t q) := by
  blk_ext [at_point t, rowOf, outCol]
  · show t.val / 8 * 512 + r.val = 512 * (t.val / 8) + r.val
    omega
  · show (t.val % 8 - 4) * 256 + q.val = 256 * (t.val % 8 - 4) + q.val
    omega

end Cert.KernelIdeal.Hand

end
-- ==== Proof.KernelValue.lean ====
/- The kernel's result: the hidden activations of an expert are the gated product at its rows, each block written back
   is the network at its rows and columns, and the blocks cover the result. -/
module

public import proofs.«01_k».proof.Proof.Spec
public import proofs.«01_k».proof.Proof.Tiles
public import proofs.«01_k».proof.Proof.Blocks

@[expose] public section

set_option maxRecDepth 16384

noncomputable section

namespace Cert.KernelIdeal.Hand

open Cert.KernelIdeal Cert.KernelIdeal.Gen Idealize.ShloMosaic Idealize.ShloMosaic.TcCoe Idealize.SL.Sem
open Cert.Spec

variable (m : (ℓ : Loc nD τ sig) → Buf (Elt Ideal) ℓ)

/-- The four arrays of numbers, as rows and stacks of matrices. -/
abbrev rows (c : Dev nD) : Rows := m ((c : Thread nD τ).loc main_arg0)
abbrev gate (c : Dev nD) : Mats := m ((c : Thread nD τ).loc main_arg2)
abbrev up (c : Dev nD) : Mats := m ((c : Thread nD τ).loc main_arg3)
abbrev down (c : Dev nD) : Mats := m ((c : Thread nD τ).loc main_arg4)

/-- The expert of a row of point `t` is the point's expert. -/
theorem expert_row (t : Fin cfg0.N) (r : Fin 512) : expert (rowOf t r) = expertOf t :=
  Fin.ext (by
    show (512 * (t.val / 8) + r.val) / 512 = t.val / 8
    have := r.isLt
    omega)

/-- A row block times the first matrix's tile is the first projection. -/
theorem gate_tile (c : Dev nD) (t : Fin cfg0.N) (r : Fin 512) (q : Fin 256) :
    tileSum (iblk m c 0 t) (iblk m c 1 t) r q = proj (rows m c) (gate m c) (rowOf t r) (inCol t q) := by
  unfold tileSum proj
  rw [expert_row]
  exact Finset.sum_congr rfl fun k _ => congrArg₂ (α := EReal) (β := EReal) (γ := EReal) (· * ·) (rows_read m c t r k) (gate_read m c t k q)

/-- A row block times the second matrix's tile is the second projection. -/
theorem up_tile (c : Dev nD) (t : Fin cfg0.N) (r : Fin 512) (q : Fin 256) :
    tileSum (iblk m c 0 t) (iblk m c 2 t) r q = proj (rows m c) (up m c) (rowOf t r) (inCol t q) := by
  unfold tileSum proj
  rw [expert_row]
  exact Finset.sum_congr rfl fun k _ => congrArg₂ (α := EReal) (β := EReal) (γ := EReal) (· * ·) (rows_read m c t r k) (up_read m c t k q)

/-- The tile of hidden activations of point `t` is the gated product there. -/
theorem hidTile_apply (c : Dev nD) (t : Fin cfg0.N) (r : Fin 512) (q : Fin 256) :
    hidTile m c t (ValueIdx.ix2 r q) = gated (rows m c) (gate m c) (up m c) (ValueIdx.ix2 (rowOf t r) (inCol t q)) := by
  unfold hidTile
  refine (pay1_apply _ _ _ r q).trans ?_
  rw [gate_tile, up_tile]
  rfl

/-- The hidden activations of the expert of point `t`: the gated product at all 1024 columns. -/
theorem hid_apply (c : Dev nD) (t : Fin cfg0.N) (r : Fin 512) (f : Fin 1024) :
    hid m c (t.val / 8) (ValueIdx.ix2 r f) = gated (rows m c) (gate m c) (up m c) (ValueIdx.ix2 (rowOf t r) f) := by
  have hf := f.isLt
  have ht := lt64 t
  have e := hidTile_apply m c (pt (8 * (t.val / 8) + f.val / 256)) r ⟨f.val % 256, Nat.mod_lt _ (by decide)⟩
  have hp : (pt (8 * (t.val / 8) + f.val / 256)).val = 8 * (t.val / 8) + f.val / 256 := Nat.mod_eq_of_lt (by omega)
  have hrow : rowOf (pt (8 * (t.val / 8) + f.val / 256)) r = rowOf t r := Fin.ext (by
    show 512 * ((pt (8 * (t.val / 8) + f.val / 256)).val / 8) + r.val = 512 * (t.val / 8) + r.val
    rw [hp]; omega)
  have hcol : inCol (pt (8 * (t.val / 8) + f.val / 256)) ⟨f.val % 256, Nat.mod_lt _ (by decide)⟩ = f := Fin.ext (by
    show 256 * min ((pt (8 * (t.val / 8) + f.val / 256)).val % 8) 3 + f.val % 256 = f.val
    rw [hp]; omega)
  rw [hrow, hcol] at e
  refine Eq.trans ?_ e
  unfold hid
  exact congrArg (hidTile m c (pt (8 * (t.val / 8) + f.val / 256))) (ValueIdx.eq_ix2 _)

/-- What point `t` of the second case leaves in its block of the result is the network there. -/
theorem block_eq (c : Dev nD) (t : Fin cfg0.N) (r : Fin 512) (q : Fin 256) :
    k0_pay2 (F := Ideal) (hid m c (t.val / 8)) (iblk m c 3 t) (ValueIdx.ix2 r q)
      = network (rows m c) (gate m c) (up m c) (down m c) (ValueIdx.ix2 (rowOf t r) (outCol t q)) := by
  refine (pay2_apply _ _ r q).trans ?_
  show tileSum _ _ r q = proj (gated (rows m c) (gate m c) (up m c)) (down m c) (rowOf t r) (outCol t q)
  unfold tileSum proj
  rw [expert_row]
  exact Finset.sum_congr rfl fun k _ => congrArg₂ (α := EReal) (β := EReal) (γ := EReal) (· * ·) (hid_apply m c t r k) (down_read m c t k q)

/-- The result after the last point is the network. -/
theorem result_eq (c : Dev nD) :
    (dats m 0 c).arrAt 4 cfg0.N = network (rows m c) (gate m c) (up m c) (down m c) := by
  refine (dats m 0 c).arrAt_eq_of_covers 4 _ (by decide +kernel) fun t _ y => ?_
  obtain ⟨r, q, rfl⟩ : ∃ (r : Fin 512) (q : Fin 256), y = ValueIdx.ix2 r q := ⟨_, _, ValueIdx.eq_ix2 y⟩
  rw [result_at]
  refine Eq.trans ?_ (block_eq m c t r q)
  rw [after_4]
  rfl

end Cert.KernelIdeal.Hand

end
-- ==== Proof.RefSegments.lean ====
/- The reference's table of experts: with every group at 512 tokens, token `t` is of expert `t / 512`. The table is
   the count of the running totals that `t` has reached, kept between 0 and 7. -/
module

public import proofs.«01_k».proof.Proof.Gen.ReferenceIdeal.Read
public import Idealize.ShloMosaic.Lib.Routing.Ops
public import Idealize.ShloMosaic.Lib.WordCmp

@[expose] public section

noncomputable section

namespace Cert.ReferenceIdeal.Hand

open Cert.ReferenceIdeal Cert.ReferenceIdeal.Gen Cert.ReferenceIdeal.Read Idealize.ShloMosaic Idealize.ShloMosaic.ValueIdx

variable {F : FTy → Type} [FloatOps F]

/-- Every group holds 512 tokens. -/
def Uniform (gs : IVec S8 32) : Prop := ∀ e : Fin 8, gs (ix1 e) = 512#32

/-- The running total after group `e` is `512 * (e + 1)`. -/
theorem total_eq (gs : IVec S8 32) (h : Uniform gs) (e : Fin 8) :
    val_main_v0 (F := F) gs (ix1 e) = BitVec.ofNat 32 (512 * (e.val + 1)) := by
  have hc := Routing.cumsum1 (N := 8) (Nm1 := 7) rfl gs (fun _ => 512) (fun i => h i) (val_main_call0_call0_v0 (F := F)) rfl
    reduceWindows_S8_S8_w8s1p7_0 h_S_ e
  refine Eq.trans hc (congrArg (BitVec.ofNat 32) ?_)
  rw [List.map_const', List.sum_replicate, List.length_range, smul_eq_mul, Nat.mul_comm]

/-- The comparison's bit at token `t` and group `e` is set when `t` has reached that group's total. -/
theorem reached_iff (gs : IVec S8 32) (h : Uniform gs) (t : Fin 4096) (e : Fin 8) :
    val_main_v6 (F := F) gs (ix2 t e) = 1#1 ↔ 512 * (e.val + 1) ≤ t.val := by
  have ht : val_main_v5 (F := F) (ix2 t e) = BitVec.ofNat 32 t.val := by
    rw [val_main_v5_apply, val_main_v3_apply, val_main_v2_apply]
  have he : val_main_v4 (F := F) gs (ix2 t e) = BitVec.ofNat 32 (512 * (e.val + 1)) := by
    rw [val_main_v4_apply, val_main_v1_apply, ← total_eq (F := F) gs h e]
    exact congrArg (val_main_v0 (F := F) gs) (eq_ix1 _)
  rw [val_main_v6_apply, ht, he]
  exact WordCmp.cmpi_sle_ofNat_eq_one_iff (by have := e.isLt; omega) (by have := t.isLt; omega)

/-- Of the eight totals, token `t` has reached `t / 512`. -/
theorem count_reached (t : ℕ) (ht : t < 4096) : Nat.count (fun e => 512 * (e + 1) ≤ t) 8 = t / 512 := by
  simp only [Nat.count_succ, Nat.count_zero]
  split_ifs <;> omega

/-- A number below 8 is unchanged when it is kept between 0 and 7. -/
theorem kept (n : ℕ) (hn : n < 8) : IntOp.minsi 7#32 (IntOp.maxsi 0#32 (BitVec.ofNat 32 n)) = BitVec.ofNat 32 n := by
  interval_cases n <;> decide

/-- The table of experts at token `t`. -/
theorem segment_eq (gs : IVec S8 32) (h : Uniform gs) (t : Fin 4096) :
    val_main_v9 (F := F) gs (ix1 t) = BitVec.ofNat 32 (t.val / 512) := by
  have hcount : val_main_v8 (F := F) gs (ix1 t) = BitVec.ofNat 32 (t.val / 512) := by
    refine (Routing.reduce_count (n := 4096) (m := 8) (by decide) (val_main_v6 (F := F) gs) natLt_1_32 reducesTo_S4096x8_S4096_d1 h_S_ t
      (fun e => 512 * (e + 1) ≤ t.val) (fun e => reached_iff gs h t e)).trans ?_
    rw [count_reached t.val t.isLt]
  rw [val_main_v9_apply, val_main_call1_v2_apply, hcount, val_main_call1_v4_apply, val_main_call1_v1_apply]
  exact kept _ (by have := t.isLt; omega)

end Cert.ReferenceIdeal.Hand

end
-- ==== Proof.RefExperts.lean ====
/- The reference's grouped product: for each of the eight experts it blanks the rows of every other expert, multiplies
   by that expert's matrix and adds. Where the table of experts is `t / 512`, the sum is the one projection by the
   token's own expert. -/
module

public import proofs.«01_k».proof.Proof.Spec
public import proofs.«01_k».proof.Proof.RefSegments
public import Idealize.ShloMosaic.Lib.StackMember

@[expose] public section

noncomputable section

namespace Cert.ReferenceIdeal.Hand

open Cert.ReferenceIdeal Cert.ReferenceIdeal.Gen Cert.ReferenceIdeal.Read Idealize.ShloMosaic Idealize.ShloMosaic.ValueIdx
open Cert.Spec

/-- The rows, those not of expert `e` multiplied by zero and the rest by one. -/
def blanked (seg : IVec S4096 32) (x : Rows) (e : BitVec 32) : Rows :=
  mulf x (broadcastInDim S4096x1024 ![0, 1] bcast_S4096x1_S4096x1024_0_1
    (broadcastInDim S4096x1 ![0] bcast_S4096_S4096x1_0
      (uitofp .f32 (cmpi .eq seg (broadcastInDim S4096 ![] bcast_S_S4096 (constantI S_ 32 e))))))

/-- The matrix of the stack that starts at `off`. -/
def matrix (w : Mats) (off : Fin 3 → ℕ) (h : S8x1024x1024.Slices off S1x1024x1024) : FVec Ideal S1024x1024 .f32 :=
  shapeCast _ (extractStridedSlice S1x1024x1024 off w h) shapeCasts_S1x1024x1024_S1024x1024

/-- One expert's share added to `acc`. -/
def share (seg : IVec S4096 32) (x : Rows) (w : Mats) (e : BitVec 32) (off : Fin 3 → ℕ) (h : S8x1024x1024.Slices off S1x1024x1024)
    (acc : Rows) : Rows :=
  addf acc (Host.dotGeneral dot_S4096x1024_S1024x1024_S4096x1024_1_0_0_1_n_n none (blanked seg x e) (matrix w off h))

/-- The eight shares, added in order from zero. -/
def grouped (seg : IVec S4096 32) (x : Rows) (w : Mats) : Rows :=
  share seg x w 7#32 ![7, 0, 0] slices_S8x1024x1024_S1x1024x1024_7_0_0 <|
  share seg x w 6#32 ![6, 0, 0] slices_S8x1024x1024_S1x1024x1024_6_0_0 <|
  share seg x w 5#32 ![5, 0, 0] slices_S8x1024x1024_S1x1024x1024_5_0_0 <|
  share seg x w 4#32 ![4, 0, 0] slices_S8x1024x1024_S1x1024x1024_4_0_0 <|
  share seg x w 3#32 ![3, 0, 0] slices_S8x1024x1024_S1x1024x1024_3_0_0 <|
  share seg x w 2#32 ![2, 0, 0] slices_S8x1024x1024_S1x1024x1024_2_0_0 <|
  share seg x w 1#32 ![1, 0, 0] slices_S8x1024x1024_S1x1024x1024_1_0_0 <|
  share seg x w 0#32 ![0, 0, 0] slices_S8x1024x1024_S1x1024x1024_0_0_0 <|
  broadcastInDim S4096x1024 ![] bcast_S_S4096x1024 (constant S_ .f32 0x00000000#32)

/-- The table of experts says `t / 512` at every token. -/
def IsTable (seg : IVec S4096 32) : Prop := ∀ t : Fin 4096, seg (ix1 t) = BitVec.ofNat 32 (t.val / 512)

/-- A blanked row is the row itself for a token of the expert, and zero for any other token. -/
theorem blanked_apply (seg : IVec S4096 32) (hs : IsTable seg) (x : Rows) (e : ℕ) (he : e < 8) (t : Fin 4096) (k : Fin 1024) :
    blanked seg x (BitVec.ofNat 32 e) (ix2 t k) = if t.val / 512 = e then x (ix2 t k) else 0 := by
  have hb : broadcastInDim S4096x1024 ![0, 1] bcast_S4096x1_S4096x1024_0_1 (broadcastInDim S4096x1 ![0] bcast_S4096_S4096x1_0
      (uitofp (F := Ideal) .f32 (cmpi .eq seg (broadcastInDim S4096 ![] bcast_S_S4096 (constantI S_ 32 (BitVec.ofNat 32 e)))))) (ix2 t k)
      = (FloatOps.uitofp .f32 (IntOp.cmpi .eq (BitVec.ofNat 32 (t.val / 512)) (BitVec.ofNat 32 e)) : Ideal .f32) := by
    rw [broadcastInDim_apply _ bcast_S4096x1_S4096x1024_0_1 _ (ix2 t k) (ix2 t 0) (fun a => match a with
        | ⟨0, _⟩ => rfl
        | ⟨1, _⟩ => rfl),
      broadcastInDim_apply _ bcast_S4096_S4096x1_0 _ (ix2 t 0) (ix1 t) (fun a => match a with
        | ⟨0, _⟩ => rfl), ← hs t]
    rfl
  show x (ix2 t k) * _ = _
  rw [hb]
  have ht : t.val / 512 < 8 := by have := t.isLt; omega
  by_cases h : t.val / 512 = e
  · rw [if_pos h, (WordCmp.cmpi_eq_ofNat_eq_one_iff (by omega) (by omega)).mpr h]
    show x (ix2 t k) * (((1 : ℕ) : ℝ) : EReal) = _
    rw [Nat.cast_one, EReal.coe_one, mul_one]
  · rw [if_neg h, (WordCmp.cmpi_eq_ofNat_eq_zero_iff (by omega) (by omega)).mpr h]
    show x (ix2 t k) * (((0 : ℕ) : ℝ) : EReal) = _
    rw [Nat.cast_zero, EReal.coe_zero, mul_zero]

/-- The matrix of the stack at `![e, 0, 0]` is expert `e`'s. -/
theorem matrix_apply (w : Mats) (e : Fin 8) (h : S8x1024x1024.Slices ![e.val, 0, 0] S1x1024x1024) (k n : Fin 1024) :
    matrix w ![e.val, 0, 0] h (ix2 k n) = w (ix3 e k n) := by
  unfold matrix
  rw [shapeCast_apply _ shapeCasts_S1x1024x1024_S1024x1024 (ix2 k n) (ix3 0 k n) (by
    rw [Shape.rowMajor_val_three, Shape.rowMajor_val_two]
    show (0 * 1024 + k.val) * 1024 + n.val = k.val * 1024 + n.val
    omega)]
  exact extractStridedSlice_apply _ w h (ix3 0 k n) (ix3 e k n) (fun a => match a with
    | ⟨0, _⟩ => rfl
    | ⟨1, _⟩ => by show k.val = 0 + k.val; omega
    | ⟨2, _⟩ => by show n.val = 0 + n.val; omega)

/-- A share adds the projection by the expert's matrix to the rows of its own tokens, and nothing to the others. -/
theorem share_apply (seg : IVec S4096 32) (hs : IsTable seg) (x : Rows) (w : Mats) (e : ℕ) (he : e < 8)
    (h : S8x1024x1024.Slices ![e, 0, 0] S1x1024x1024) (acc : Rows) (t : Fin 4096) (n : Fin 1024) :
    share seg x w (BitVec.ofNat 32 e) ![e, 0, 0] h acc (ix2 t n)
      = acc (ix2 t n) + if t.val / 512 = e then proj x w t n else 0 := by
  show acc (ix2 t n) + Host.dotGeneral (DotDims.plain 4096 1024 1024) none (blanked seg x (BitVec.ofNat 32 e))
    (matrix w ![e, 0, 0] h) (ix2 t n) = _
  rw [StackMember.dotGeneral_plain_apply]
  congr 1
  by_cases ht : t.val / 512 = e
  · rw [if_pos ht]
    have hE : expert t = ⟨e, he⟩ := Fin.ext ht
    refine Finset.sum_congr rfl fun k _ => ?_
    rw [blanked_apply seg hs x e he t k, if_pos ht, matrix_apply w ⟨e, he⟩ h k n, hE]
  · rw [if_neg ht]
    refine Finset.sum_eq_zero fun k _ => ?_
    rw [blanked_apply seg hs x e he t k, if_neg ht, zero_mul]

/-- The eight shares together: the projection by the token's own expert. -/
theorem grouped_apply (seg : IVec S4096 32) (hs : IsTable seg) (x : Rows) (w : Mats) (t : Fin 4096) (n : Fin 1024) :
    grouped seg x w (ix2 t n) = proj x w t n := by
  have hz : broadcastInDim S4096x1024 ![] bcast_S_S4096x1024 (constant (F := Ideal) S_ .f32 0x00000000#32) (ix2 t n) = (0 : EReal) :=
    Ideal.ofBits_zero_f32
  unfold grouped
  rw [share_apply seg hs x w 7 (by decide), share_apply seg hs x w 6 (by decide), share_apply seg hs x w 5 (by decide), share_apply seg hs x w 4 (by decide),
    share_apply seg hs x w 3 (by decide), share_apply seg hs x w 2 (by decide), share_apply seg hs x w 1 (by decide), share_apply seg hs x w 0 (by decide), hz]
  have ht : t.val / 512 < 8 := by have := t.isLt; omega
  generalize t.val / 512 = q at ht
  generalize proj x w t n = p
  interval_cases q <;> simp

end Cert.ReferenceIdeal.Hand

end
-- ==== Proof.RefValue.lean ====
/- The reference's result: three grouped products, the first through `silu`, are the network of Spec.lean when every
   group holds 512 tokens. -/
module

public import proofs.«01_k».proof.Proof.RefExperts

@[expose] public section

noncomputable section

namespace Cert.ReferenceIdeal.Hand

open Cert.ReferenceIdeal Cert.ReferenceIdeal.Gen Cert.ReferenceIdeal.Read Idealize.ShloMosaic Idealize.ShloMosaic.ValueIdx
open Cert.Spec

/-- The gate's projection is a grouped product. -/
theorem gate_grouped (x0 : Rows) (gs : IVec S8 32) (x2 : Mats) :
    val_main_v90 (F := Ideal) x0 gs x2 = grouped (val_main_v9 (F := Ideal) gs) x0 x2 := rfl

/-- So is the second projection, by the same table. -/
theorem up_grouped (x0 : Rows) (gs : IVec S8 32) (x3 : Mats) :
    val_main_v181 (F := Ideal) x0 gs x3 = grouped (val_main_v9 (F := Ideal) gs) x0 x3 := rfl

/-- So is the last one, of the gated product. -/
theorem down_grouped (x0 : Rows) (gs : IVec S8 32) (x2 x3 x4 : Mats) :
    val_main_v274 (F := Ideal) x0 gs x2 x3 x4
      = grouped (val_main_v9 (F := Ideal) gs) (val_main_v183 (F := Ideal) x0 gs x2 x3) x4 := rfl

/-- The word `0x3F800000` is the number one. -/
theorem one_word : (FloatOps.ofBits .f32 0x3F800000#32 : Ideal .f32) = (1 : EReal) := by
  show Ideal.ofBits .f32 0x3F800000#32 = 1
  simp [Ideal.ofBits, Ideal.ieee, -EReal.coe_mul]
  norm_num

/-- The gated product in terms of the two projections. -/
theorem gated_eq (x0 : Rows) (gs : IVec S8 32) (x2 x3 : Mats) (i : S4096x1024.Idx) :
    val_main_v183 (F := Ideal) x0 gs x2 x3 i
      = val_main_v90 (F := Ideal) x0 gs x2 i * Ideal.logistic (val_main_v90 (F := Ideal) x0 gs x2 i)
        * val_main_v181 (F := Ideal) x0 gs x3 i := by
  have h2 : val_main_call4_v2 (F := Ideal) i = (1 : EReal) := one_word
  have h4 : val_main_call4_v4 (F := Ideal) i = (1 : EReal) := one_word
  rw [val_main_v183_apply, val_main_v182_apply, val_main_call4_v5_apply, val_main_call4_v3_apply, h2, h4]
  rfl

/-- The reference's result is the network. -/
theorem result_eq (x0 : Rows) (gs : IVec S8 32) (h : Uniform gs) (x2 x3 x4 : Mats) :
    val_main_v274 (F := Ideal) x0 gs x2 x3 x4 = network x0 x2 x3 x4 := by
  have hs : IsTable (val_main_v9 (F := Ideal) gs) := fun t => segment_eq gs h t
  have hg : val_main_v183 (F := Ideal) x0 gs x2 x3 = gated x0 x2 x3 := by
    funext i
    obtain ⟨t, n, rfl⟩ : ∃ (t : Fin 4096) (n : Fin 1024), i = ix2 t n := ⟨_, _, eq_ix2 i⟩
    rw [gated_eq, gate_grouped, up_grouped, grouped_apply _ hs, grouped_apply _ hs]
    rfl
  funext i
  obtain ⟨t, n, rfl⟩ : ∃ (t : Fin 4096) (n : Fin 1024), i = ix2 t n := ⟨_, _, eq_ix2 i⟩
  rw [down_grouped, hg, grouped_apply _ hs]
  rfl

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelValue
public import proofs.«01_k».proof.Proof.RefValue
public import Idealize.ShloMosaic.Lib.Quiescent

@[expose] public section

noncomputable section

namespace Cert.Proof

open Idealize.ShloMosaic Idealize.ShloMosaic.TcCoe Idealize.SL.Sem

/-- The one side condition of the precondition's predicate. -/
theorem pre_facts : Cert.Pre_uniform_groups.Facts := ⟨by decide⟩

/-- Under the precondition every group holds 512 tokens. -/
theorem uniform_of_pre (m : (ℓ : Loc Cert.KernelIdeal.nD Cert.KernelIdeal.τ Cert.KernelIdeal.sig) → Buf (Elt Ideal) ℓ)
    (h : Cert.Pre_KernelIdeal_uniform_groups (hPre_uniform_groups := pre_facts) m)
    (c : Dev Cert.KernelIdeal.nD) :
    Cert.ReferenceIdeal.Hand.Uniform (m ((c : Thread Cert.KernelIdeal.nD Cert.KernelIdeal.τ).loc Cert.KernelIdeal.main_arg1)) :=
  fun e => IntOp.cmpi_eq.mp (congrFun (h c) (ValueIdx.ix1 e))

/-- The kernel's run with its result: the network of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
          = Cert.Spec.network (Cert.KernelIdeal.Hand.rows m c) (Cert.KernelIdeal.Hand.gate m c) (Cert.KernelIdeal.Hand.up m c)
              (Cert.KernelIdeal.Hand.down m c)) :=
  (θ_run _ _ _).mono (fun _ h c => ((h c).1 4).trans (Cert.KernelIdeal.Hand.result_eq m c)) (Cert.KernelIdeal.Hand.run_post m ρ)

/-- The reference's run, its arguments unchanged and its counters at zero: it has none. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The equation: from the same arguments, with 512 tokens in every group, both programs end at the network of them. -/
theorem same_result : Cert.algebraic_KernelIdeal_ReferenceIdeal_pre_uniform_groups (hKernelIdeal := Cert.KernelIdeal.Gen.facts)
    (hReferenceIdeal := Cert.ReferenceIdeal.Gen.facts) (hPre_uniform_groups := pre_facts) := by
  intro m g m' g' hpre hagree
  refine ⟨fun c => Cert.Spec.network (Cert.KernelIdeal.Hand.rows m c) (Cert.KernelIdeal.Hand.gate m c) (Cert.KernelIdeal.Hand.up m c)
    (Cert.KernelIdeal.Hand.down m c), ?_, ?_⟩
  · exact (θ_run _ _ _).mono (fun _ h c => ⟨h.1 c, h.2.1 c⟩) (θ_run_and (kernel_run m g) (Cert.KernelIdeal.Hand.frame_all m g))
  · refine (θ_run _ _ _).mono (fun _ h c => ⟨(h c).1.trans ?_, (h c).2⟩) (Cert.ReferenceIdeal.Value.run (F := Ideal) m' g')
    obtain ⟨h0, h1, h2, h3, h4⟩ := hagree c
    refine (Cert.ReferenceIdeal.Read.val_main_v274_eq _).trans ?_
    rw [StableHlo.launchContents_devRef, StableHlo.launchContents_devRef, StableHlo.launchContents_devRef,
      StableHlo.launchContents_devRef, StableHlo.launchContents_devRef, h0, h1, h2, h3, h4]
    exact Cert.ReferenceIdeal.Hand.result_eq _ _ (uniform_of_pre m hpre c) _ _ _

theorem claim : Cert.Claim :=
  ⟨Cert.Kernel.Gen.facts, Cert.KernelIdeal.Gen.facts, Cert.ReferenceIdeal.Gen.facts, pre_facts,
    Cert.Kernel.Hand.frame_bits,
    fun m ρ _ => Cert.KernelIdeal.Hand.frame_all m ρ,
    fun m ρ _ => Cert.KernelIdeal.Hand.frame_all m ρ,
    reference_frame,
    fun m ρ _ => reference_frame m ρ trivial,
    trivial,
    same_result⟩

end Cert.Proof

end
